-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x64x2x128x128 : Shape := ⟨5, ![16, 64, 2, 128, 128]⟩
abbrev S33554432 : Shape := ⟨1, ![33554432]⟩
abbrev S25165824 : Shape := ⟨1, ![25165824]⟩
abbrev S32768 : Shape := ⟨1, ![32768]⟩
abbrev S_ : Shape := ⟨0, ![]⟩
abbrev S12x64x2x128x128 : Shape := ⟨5, ![12, 64, 2, 128, 128]⟩

abbrev nBuf : Table → Nat
  | .hbm => 4
  | .local .scVector .vmem => 3
  | _ => 0

abbrev bufTy : (tb : Table) → Fin (nBuf tb) → BufTy
  | .hbm, ⟨0, _⟩ => ⟨S16x64x2x128x128, .f32⟩
  | .hbm, ⟨1, _⟩ => ⟨S33554432, .f32⟩
  | .hbm, ⟨2, _⟩ => ⟨S25165824, .f32⟩
  | .hbm, ⟨3, _⟩ => ⟨S12x64x2x128x128, .f32⟩
  | .local .scVector .vmem, ⟨0, _⟩ => ⟨S32768, .f32⟩
  | .local .scVector .vmem, ⟨1, _⟩ => ⟨S32768, .f32⟩
  | .local .scVector .vmem, ⟨2, _⟩ => ⟨S32768, .f32⟩
  | _, _ => ⟨S16x64x2x128x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c4194304_i32 : BitVec 32) (c655360_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli v1 c655360_i32
  let v3 : BitVec 32 := Scalar.addi c4194304_i32 v2
  ![v3.toNat]
def k0_off1_at (r : Fin 24) : BitVec 32 × BitVec 32 :=
  if r.val < 12 then
    if r.val < 6 then
      if r.val < 3 then
        if r.val < 1 then
          (4194304#32, 655360#32)
        else
          if r.val < 2 then
            (4227072#32, 655360#32)
          else
            (4259840#32, 655360#32)
      else
        if r.val < 4 then
          (4292608#32, 655360#32)
        else
          if r.val < 5 then
            (4325376#32, 655360#32)
          else
            (4358144#32, 655360#32)
    else
      if r.val < 9 then
        if r.val < 7 then
          (4390912#32, 655360#32)
        else
          if r.val < 8 then
            (4423680#32, 655360#32)
          else
            (4456448#32, 655360#32)
      else
        if r.val < 10 then
          (4489216#32, 655360#32)
        else
          if r.val < 11 then
            (4521984#32, 655360#32)
          else
            (4554752#32, 655360#32)
  else
    if r.val < 18 then
      if r.val < 15 then
        if r.val < 13 then
          (4587520#32, 655360#32)
        else
          if r.val < 14 then
            (4620288#32, 655360#32)
          else
            (4653056#32, 655360#32)
      else
        if r.val < 16 then
          (4685824#32, 655360#32)
        else
          if r.val < 17 then
            (4718592#32, 655360#32)
          else
            (4751360#32, 655360#32)
    else
      if r.val < 21 then
        if r.val < 19 then
          (4784128#32, 655360#32)
        else
          if r.val < 20 then
            (4816896#32, 655360#32)
          else
            (27262976#32, 65536#32)
      else
        if r.val < 22 then
          (27295744#32, 65536#32)
        else
          if r.val < 23 then
            (31457280#32, 65536#32)
          else
            (31490048#32, 65536#32)
def k0_off2 (i : grid0.Coords) (c0_i32 : BitVec 32) (c655360_i32_4 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v18 : BitVec 32 := Scalar.muli v1 c655360_i32_4
  let v19 : BitVec 32 := Scalar.addi c0_i32 v18
  ![v19.toNat]
def k0_off2_at (r : Fin 24) : BitVec 32 × BitVec 32 :=
  if r.val < 12 then
    if r.val < 6 then
      if r.val < 3 then
        if r.val < 1 then
          (0#32, 655360#32)
        else
          if r.val < 2 then
            (32768#32, 655360#32)
          else
            (65536#32, 655360#32)
      else
        if r.val < 4 then
          (98304#32, 655360#32)
        else
          if r.val < 5 then
            (131072#32, 655360#32)
          else
            (163840#32, 655360#32)
    else
      if r.val < 9 then
        if r.val < 7 then
          (196608#32, 655360#32)
        else
          if r.val < 8 then
            (229376#32, 655360#32)
          else
            (262144#32, 655360#32)
      else
        if r.val < 10 then
          (294912#32, 655360#32)
        else
          if r.val < 11 then
            (327680#32, 655360#32)
          else
            (360448#32, 655360#32)
  else
    if r.val < 18 then
      if r.val < 15 then
        if r.val < 13 then
          (393216#32, 655360#32)
        else
          if r.val < 14 then
            (425984#32, 655360#32)
          else
            (458752#32, 655360#32)
      else
        if r.val < 16 then
          (491520#32, 655360#32)
        else
          if r.val < 17 then
            (524288#32, 655360#32)
          else
            (557056#32, 655360#32)
    else
      if r.val < 21 then
        if r.val < 19 then
          (589824#32, 655360#32)
        else
          if r.val < 20 then
            (622592#32, 655360#32)
          else
            (20971520#32, 65536#32)
      else
        if r.val < 22 then
          (21004288#32, 65536#32)
        else
          if r.val < 23 then
            (23068672#32, 65536#32)
          else
            (23101440#32, 65536#32)
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x64x2x128x128 : Shape := ⟨5, ![16, 64, 2, 128, 128]⟩
abbrev S12 : Shape := ⟨1, ![12]⟩
abbrev S_ : Shape := ⟨0, ![]⟩
abbrev S12x1 : Shape := ⟨2, ![12, 1]⟩
abbrev S12x64x2x128x128 : Shape := ⟨5, ![12, 64, 2, 128, 128]⟩

abbrev nBuf : Space → Nat
  | .hbm => 9
  | .vmem => 0
  | .smem => 0
  | _ => 0

abbrev bufTy : (tb : Table) → Fin (tcTables nBuf tb) → BufTy
  | .hbm, ⟨0, _⟩ => ⟨S16x64x2x128x128, .f32⟩
  | .hbm, ⟨1, _⟩ => ⟨S12, .i32⟩
  | .hbm, ⟨2, _⟩ => ⟨S12, .i1⟩
  | .hbm, ⟨3, _⟩ => ⟨S_, .i32⟩
  | .hbm, ⟨4, _⟩ => ⟨S12, .i32⟩
  | .hbm, ⟨5, _⟩ => ⟨S12, .i32⟩
  | .hbm, ⟨6, _⟩ => ⟨S12, .i32⟩
  | .hbm, ⟨7, _⟩ => ⟨S12x1, .i32⟩
  | .hbm, ⟨8, _⟩ => ⟨S12x64x2x128x128, .f32⟩
  | _, _ => ⟨S16x64x2x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Setup.lean ====
/-
  The kernel's launch as the library's launch theorem sees it, the pieces the tiles copy, and what the call's
  handshakes carry: every tile its twenty-four pieces of `x_flat` and of `out_flat`, and back again with each piece of
  `out_flat` at the piece of `x_flat` copied into it.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Pipeline.ValueKit.Geometry
public import proofs.«01_k».proof.Proof.Gen.KernelIdeal
public import proofs.«01_k».proof.Proof.Gen.KernelIdeal.Skeleton

@[expose] public section

noncomputable section

namespace Cert.Proof.Copy

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's configuration -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call runs on two SparseCores. -/
theorem nCore_eq (q : Fin 1) : (K (F := F)).nCore q = 2 := by obtain rfl : q = 0 := Subsingleton.elim _ _; rfl
/-- The call runs on sixteen tiles of each. -/
theorem nSub_eq (q : Fin 1) : (K (F := F)).nSub q = 16 := by obtain rfl : q = 0 := Subsingleton.elim _ _; rfl

/-- The launch's semaphores are distinct and unscoped, and no buffer is shared among a SparseCore's tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and their pieces -/

/-- `x_flat` and `out_flat`, as the TensorCore addresses them. -/
abbrev xLoc (d : Dev nD) : Loc nD τ sig := (SparseCore.T d).loc main_v0
abbrev oLoc (d : Dev nD) : Loc nD τ sig := (SparseCore.T d).loc main_v1

local notation "xV" => (Memref.whole Cert.KernelIdeal.main_v0_scv : Memref Cert.KernelIdeal.sig Kind.scVector Space.hbm Cert.KernelIdeal.S33554432 EltTy.f32)
local notation "oV" => (Memref.whole Cert.KernelIdeal.main_v1_scv : Memref Cert.KernelIdeal.sig Kind.scVector Space.hbm Cert.KernelIdeal.S25165824 EltTy.f32)

abbrev cV (L : grid0.Coords) : Fin τ.nSC := (L 0).castLE hcore0
abbrev jV (L : grid0.Coords) : Fin τ.nSub := (L 1).castLE hsub0

/-- The piece of `x_flat` the tile at `L` reads in its `r`-th copy, as the kernel slices it. -/
abbrev xSl (L : grid0.Coords) (r : Fin 24) : Memref sig .scVector .hbm S32768 .f32 :=
  (xV).slice (Rect.unit (s := S33554432) (k0_off1 L (k0_off1_at r).1 (k0_off1_at r).2) S32768.size (k0_off1_inb L r)) (fun _ => rfl)
/-- The piece of `out_flat` it writes in that copy. -/
abbrev oSl (L : grid0.Coords) (r : Fin 24) : Memref sig .scVector .hbm S32768 .f32 :=
  (oV).slice (Rect.unit (s := S25165824) (k0_off2 L (k0_off2_at r).1 (k0_off2_at r).2) S32768.size (k0_off2_inb L r)) (fun _ => rfl)

abbrev xSet (L : grid0.Coords) (r : Fin 24) : Finset S33554432.Idx := (xSl L r).view.set
abbrev oSet (L : grid0.Coords) (r : Fin 24) : Finset S25165824.Idx := (oSl L r).view.set

/-! ## Where the pieces lie -/

/-- The element of `x_flat` that element `n` of `out_flat` is to hold: ten rows moved down by two, then one moved by three
    and one by four (a row has 2097152 elements). -/
def srcIx (n : ℕ) : ℕ := if n < 20971520 then n + 4194304 else if n < 23068672 then n + 6291456 else n + 8388608

/-- It is an element of `x_flat`. -/
theorem srcIx_lt {n : ℕ} (h : n < 25165824) : srcIx n < 33554432 := by unfold srcIx; split_ifs <;> omega

/-- `srcIx` on the arrays' indices. -/
def srcOf (i : S25165824.Idx) : S33554432.Idx := fun a => match a with | 0 => ⟨srcIx (i 0).val, srcIx_lt (i 0).isLt⟩

/-- `out_flat` at every element's source in `x`. -/
def copied {d : Dev nD} (x : Buf (Elt F) (xLoc d)) : Buf (Elt F) (oLoc d) := fun i => x (srcOf i)

/-- The tile's number, as the kernel computes it. -/
def wid (L : grid0.Coords) : ℕ := 2 * (L 1).val + (L 0).val

/-- There are thirty-two tiles. -/
theorem wid_lt (L : grid0.Coords) : wid L < 32 := by
  have h0 : (L 0).val < 2 := (L 0).isLt
  have h1 : (L 1).val < 16 := (L 1).isLt
  unfold wid; omega

/-- The kernel's word arithmetic on an offset does not wrap. -/
theorem word_off (L : grid0.Coords) (b p : BitVec 32) (hb : b.toNat ≤ 33554432) (hp : p.toNat ≤ 655360) :
    (Scalar.addi b (Scalar.muli (Scalar.addi (Scalar.muli (BitVec.ofNat 32 (L 1).val) 2#32) (BitVec.ofNat 32 (L 0).val)) p)).toNat
      = b.toNat + wid L * p.toNat := by
  have h0 : (L 0).val < 2 := (L 0).isLt
  have h1 : (L 1).val < 16 := (L 1).isLt
  have hw : wid L * p.toNat ≤ 32 * 655360 := Nat.mul_le_mul (wid_lt L).le hp
  simp only [Scalar.addi, Scalar.muli, IntOp.addi, IntOp.muli, BitVec.toNat_add, BitVec.toNat_mul, BitVec.toNat_ofNat]
  have e : ((L 1).val % 2 ^ 32 * (2 % 2 ^ 32) % 2 ^ 32 + (L 0).val % 2 ^ 32) % 2 ^ 32 = wid L := by unfold wid; omega
  rw [e, Nat.mod_eq_of_lt (show wid L * p.toNat < 2 ^ 32 by omega), Nat.mod_eq_of_lt (by omega)]

/-- A copy's place in its run's tile part: the base and the tile part's length, of `out_flat`; and how far up `x_flat`'s
    piece lies. -/
def runBase (r : ℕ) : ℕ := if r < 20 then 32768 * r else if r < 22 then 20971520 + 32768 * (r - 20) else 23068672 + 32768 * (r - 22)
def runLen (r : ℕ) : ℕ := if r < 20 then 655360 else 65536
def runShift (r : ℕ) : ℕ := if r < 20 then 4194304 else if r < 22 then 6291456 else 8388608

/-- The literals of the kernel's copies into the buffers are the start of the run in `x_flat` and a tile's share of it. -/
theorem lits1 : ∀ r : Fin 24, (k0_off1_at r).1.toNat = runBase r.val + runShift r.val ∧ (k0_off1_at r).2.toNat = runLen r.val := by decide
/-- The literals of its copies out of them are the start of the run in `out_flat` and the same share. -/
theorem lits2 : ∀ r : Fin 24, (k0_off2_at r).1.toNat = runBase r.val ∧ (k0_off2_at r).2.toNat = runLen r.val := by decide

/-- A run starts inside `x_flat`. -/
theorem runBase_le (r : Fin 24) : runBase r.val + runShift r.val ≤ 33554432 := by
  have := r.isLt; unfold runBase runShift; split_ifs <;> omega
/-- A tile's share of a run is at most twenty chunks. -/
theorem runLen_le (r : ℕ) : runLen r ≤ 655360 := by unfold runLen; split_ifs <;> omega

/-- Where the tile's `r`-th piece of `x_flat` starts. -/
theorem off1_val (L : grid0.Coords) (r : Fin 24) :
    k0_off1 L (k0_off1_at r).1 (k0_off1_at r).2 0 = runBase r.val + runShift r.val + wid L * runLen r.val := by
  obtain ⟨e1, e2⟩ := lits1 r
  have := runBase_le r; have := runLen_le r.val
  show (Scalar.addi (k0_off1_at r).1 (Scalar.muli (Scalar.addi (Scalar.muli (BitVec.ofNat 32 (L 1).val) 2#32) (BitVec.ofNat 32 (L 0).val)) (k0_off1_at r).2)).toNat = _
  rw [word_off L _ _ (by omega) (by omega), e1, e2]
/-- Where its `r`-th piece of `out_flat` starts. -/
theorem off2_val (L : grid0.Coords) (r : Fin 24) :
    k0_off2 L (k0_off2_at r).1 (k0_off2_at r).2 0 = runBase r.val + wid L * runLen r.val := by
  obtain ⟨e1, e2⟩ := lits2 r
  have := runBase_le r; have := runLen_le r.val
  show (Scalar.addi (k0_off2_at r).1 (Scalar.muli (Scalar.addi (Scalar.muli (BitVec.ofNat 32 (L 1).val) 2#32) (BitVec.ofNat 32 (L 0).val)) (k0_off2_at r).2)).toNat = _
  rw [word_off L _ _ (by omega) (by omega), e1, e2]

/-- Each piece of `out_flat` has its sources in the piece of `x_flat` of the same copy, in order. -/
theorem srcIx_piece (L : grid0.Coords) (r : Fin 24) (n : ℕ) (hn : n < 32768) :
    srcIx (k0_off2 L (k0_off2_at r).1 (k0_off2_at r).2 0 + n) = k0_off1 L (k0_off1_at r).1 (k0_off1_at r).2 0 + n := by
  rw [off1_val, off2_val]
  have hr := r.isLt; have hw := wid_lt L
  unfold srcIx runBase runShift runLen; split_ifs <;> omega

/-- Which run and which tile an element of `out_flat` belongs to decides its piece: the pieces are disjoint. -/
theorem piece_inj {L L' : grid0.Coords} {r r' : Fin 24} {n : ℕ}
    (h : runBase r.val + wid L * runLen r.val ≤ n ∧ n < runBase r.val + wid L * runLen r.val + 32768)
    (h' : runBase r'.val + wid L' * runLen r'.val ≤ n ∧ n < runBase r'.val + wid L' * runLen r'.val + 32768) :
    wid L = wid L' ∧ r = r' := by
  have hr := r.isLt; have hw := wid_lt L; have hr' := r'.isLt; have hw' := wid_lt L'
  have : wid L = wid L' ∧ r.val = r'.val := by
    unfold runBase runLen at h h'; split_ifs at h h' <;> omega
  exact ⟨this.1, Fin.ext this.2⟩

/-- The same of `x_flat`. -/
theorem xpiece_inj {L L' : grid0.Coords} {r r' : Fin 24} {n : ℕ}
    (h : runBase r.val + runShift r.val + wid L * runLen r.val ≤ n ∧ n < runBase r.val + runShift r.val + wid L * runLen r.val + 32768)
    (h' : runBase r'.val + runShift r'.val + wid L' * runLen r'.val ≤ n ∧ n < runBase r'.val + runShift r'.val + wid L' * runLen r'.val + 32768) :
    wid L = wid L' ∧ r = r' := by
  have hr := r.isLt; have hw := wid_lt L; have hr' := r'.isLt; have hw' := wid_lt L'
  have : wid L = wid L' ∧ r.val = r'.val := by
    unfold runBase runLen runShift at h h'; split_ifs at h h' <;> omega
  exact ⟨this.1, Fin.ext this.2⟩

/-- Every element of `out_flat` belongs to a piece. -/
theorem piece_cover {n : ℕ} (h : n < 25165824) :
    ∃ w r : ℕ, w < 32 ∧ r < 24 ∧ runBase r + w * runLen r ≤ n ∧ n < runBase r + w * runLen r + 32768 := by
  by_cases h1 : n < 20971520
  · refine ⟨n / 655360, n % 655360 / 32768, by omega, by omega, ?_⟩
    have : n % 655360 / 32768 < 20 := by omega
    simp only [runBase, runLen, if_pos this]; omega
  by_cases h2 : n < 23068672
  · refine ⟨(n - 20971520) / 65536, 20 + (n - 20971520) % 65536 / 32768, by omega, by omega, ?_⟩
    have h3 : ¬20 + (n - 20971520) % 65536 / 32768 < 20 := by omega
    have h4 : 20 + (n - 20971520) % 65536 / 32768 < 22 := by omega
    simp only [runBase, runLen, if_neg h3, if_pos h4]; omega
  · refine ⟨(n - 23068672) / 65536, 22 + (n - 23068672) % 65536 / 32768, by omega, by omega, ?_⟩
    have h3 : ¬22 + (n - 23068672) % 65536 / 32768 < 20 := by omega
    have h4 : ¬22 + (n - 23068672) % 65536 / 32768 < 22 := by omega
    simp only [runBase, runLen, if_neg h3, if_neg h4]; omega

end Cert.Proof.Copy

end
-- ==== Proof.Tile.lean ====
/-
  One tile's run: its twenty-four copies through the three buffers, run by the symbolic executor.
-/
module

public import proofs.«01_k».proof.Proof.Setup

@[expose] public section

noncomputable section

namespace Cert.Proof.Copy

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S33554432 EltTy.f32)
local notation "oV" => (Memref.whole Cert.KernelIdeal.main_v1_scv : Memref Cert.KernelIdeal.sig Kind.scVector Space.hbm Cert.KernelIdeal.S25165824 EltTy.f32)
local notation "b0V" => (Memref.whole Cert.KernelIdeal.cc0_scratch0 : Memref Cert.KernelIdeal.sig Kind.scVector Space.vmem Cert.KernelIdeal.S32768 EltTy.f32)
local notation "b1V" => (Memref.whole Cert.KernelIdeal.cc0_scratch1 : Memref Cert.KernelIdeal.sig Kind.scVector Space.vmem Cert.KernelIdeal.S32768 EltTy.f32)
local notation "b2V" => (Memref.whole Cert.KernelIdeal.cc0_scratch2 : Memref Cert.KernelIdeal.sig Kind.scVector Space.vmem Cert.KernelIdeal.S32768 EltTy.f32)

section Tile

variable (d : Dev nD) (L : grid0.Coords)

abbrev thr (d : Dev nD) (L : grid0.Coords) : Thread nD τ := V d (cV L) (jV L)

/-- The tile's six transfer semaphores: three of the copies in, three of the copies out. -/
abbrev copySems : Finset (SemLoc sig) :=
  {.dma cc0_scratch3.sem, .dma cc0_scratch4.sem, .dma cc0_scratch5.sem, .dma cc0_scratch6.sem, .dma cc0_scratch7.sem, .dma cc0_scratch8.sem}

abbrev cellOf (d : Dev nD) (L : grid0.Coords) : SemLoc sig ↪ GSem nD τ sig := ⟨fun s => (thr d L, s), fun _ _ h => (Prod.mk.inj h).2⟩

/-- The six are among the tile's own semaphores: they are them, at zero, and the rest. -/
theorem ownSems0_split :
    (ownSems0 (V d (cV L) (jV L)) : sProp 𝕄)
      = iprop((semVal (V d (cV L) (jV L), .dma cc0_scratch3.sem) 0 ∗ semVal (V d (cV L) (jV L), .dma cc0_scratch4.sem) 0
          ∗ semVal (V d (cV L) (jV L), .dma cc0_scratch5.sem) 0 ∗ semVal (V d (cV L) (jV L), .dma cc0_scratch6.sem) 0
          ∗ semVal (V d (cV L) (jV L), .dma cc0_scratch7.sem) 0 ∗ semVal (V d (cV L) (jV L), .dma cc0_scratch8.sem) 0)
          ∗ bigSep (ownCells (V d (cV L) (jV L)) \ copySems.map (cellOf d L)) fun g => semVal g 0) := by
  unfold SparseCore.Cfg.ownSems0
  have hs : copySems.map (cellOf d L) ⊆ ownCells (V d (cV L) (jV L)) := by
    intro g hg
    obtain ⟨s, hs, rfl⟩ := Finset.mem_map.mp hg
    exact mem_ownCells.mpr ⟨rfl, (show ∀ s ∈ copySems, s.isScoped .scVector = true by decide) s hs⟩
  rw [SparseCore.bigSep_sdiff_split' hs, bigSep_map]
  congr 1
  unfold copySems
  rw [SparseCore.bigSep_insert' (by decide), SparseCore.bigSep_insert' (by decide), SparseCore.bigSep_insert' (by decide),
    SparseCore.bigSep_insert' (by decide), SparseCore.bigSep_insert' (by decide), bigSep_singleton]
  rfl

/-- The three buffers are among the tile's own: they are them, at some contents, and the rest. -/
theorem ownBufs_split :
    (ownBufs (V d (cV L) (jV L)) : sProp 𝕄)
      = iprop((∃ f, (b0V).view.loc (V d (cV L) (jV L)) ↦{fullShare} f) ∗ (∃ f, (b1V).view.loc (V d (cV L) (jV L)) ↦{fullShare} f)
          ∗ (∃ f, (b2V).view.loc (V d (cV L) (jV L)) ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  have ne : ∀ b b' : Ref sig .scVector, b ≠ b' → (Proc.scVector (cV L) (jV L)).devRef b ≠ (Proc.scVector (cV L) (jV L)).devRef b' :=
    fun _ _ h e => h (Proc.devRef_injective _ e)
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨ne cc0_scratch1 cc0_scratch0 (by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨ne cc0_scratch2 cc0_scratch1 (by decide), Finset.mem_erase.mpr ⟨ne cc0_scratch2 cc0_scratch0 (by decide),
      SparseCore.Cfg.mem_ownRefs_of_owner (p := Proc.scVector (cV L) (jV L)) (b := (Proc.scVector (cV L) (jV L)).devRef cc0_scratch2) rfl⟩⟩)]

/-- A separating conjunction over the twenty-four copies, spelt out. -/
theorem bigSep_copies (Φ : Fin 24 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15
      ∗ Φ 16 ∗ Φ 17 ∗ Φ 18 ∗ Φ 19 ∗ Φ 20 ∗ Φ 21 ∗ Φ 22 ∗ Φ 23) :=
  bigSep_univ_eq_bigSepL [0, 1, 2, 3, 4, 5, 6, 7, 8, 9, 10, 11, 12, 13, 14, 15, 16, 17, 18, 19, 20, 21, 22, 23] (by decide) (by decide) Φ

/-- The pieces at offsets `b` plus the tile's number times `p`, as the kernel spells them with literals: of `x_flat`, at
    the contents `x`, and of `out_flat`, at `f`. -/
abbrev xAt (x : Buf (Elt F) (xLoc d)) (b p : BitVec 32) (h : ∀ a, (k0_off1 L b p) a + S32768.size a ≤ S33554432.size a) : sProp 𝕄 :=
  ((xV).slice (Rect.unit (s := S33554432) (k0_off1 L b p) S32768.size h) (fun _ => rfl)).view.loc (V d (cV L) (jV L))
    ↦[((xV).slice (Rect.unit (s := S33554432) (k0_off1 L b p) S32768.size h) (fun _ => rfl)).view.set]{fullShare} x
abbrev oAt (f : Buf (Elt F) (oLoc d)) (b p : BitVec 32) (h : ∀ a, (k0_off2 L b p) a + S32768.size a ≤ S25165824.size a) : sProp 𝕄 :=
  ((oV).slice (Rect.unit (s := S25165824) (k0_off2 L b p) S32768.size h) (fun _ => rfl)).view.loc (V d (cV L) (jV L))
    ↦[((oV).slice (Rect.unit (s := S25165824) (k0_off2 L b p) S32768.size h) (fun _ => rfl)).view.set]{fullShare} f

/-- The tile's pieces of `x_flat` with their offsets as the kernel's literals. -/
theorem xPts_spelt (x : Buf (Elt F) (xLoc d)) :
    (bigSep Finset.univ fun r : Fin 24 => xAt d L x (k0_off1_at r).1 (k0_off1_at r).2 (k0_off1_inb L r))
      = iprop(xAt d L x 4194304#32 655360#32 (k0_off1_inb L 0) ∗ xAt d L x 4227072#32 655360#32 (k0_off1_inb L 1) ∗ xAt d L x 4259840#32 655360#32 (k0_off1_inb L 2)
      ∗ xAt d L x 4292608#32 655360#32 (k0_off1_inb L 3) ∗ xAt d L x 4325376#32 655360#32 (k0_off1_inb L 4) ∗ xAt d L x 4358144#32 655360#32 (k0_off1_inb L 5)
      ∗ xAt d L x 4390912#32 655360#32 (k0_off1_inb L 6) ∗ xAt d L x 4423680#32 655360#32 (k0_off1_inb L 7) ∗ xAt d L x 4456448#32 655360#32 (k0_off1_inb L 8)
      ∗ xAt d L x 4489216#32 655360#32 (k0_off1_inb L 9) ∗ xAt d L x 4521984#32 655360#32 (k0_off1_inb L 10) ∗ xAt d L x 4554752#32 655360#32 (k0_off1_inb L 11)
      ∗ xAt d L x 4587520#32 655360#32 (k0_off1_inb L 12) ∗ xAt d L x 4620288#32 655360#32 (k0_off1_inb L 13) ∗ xAt d L x 4653056#32 655360#32 (k0_off1_inb L 14)
      ∗ xAt d L x 4685824#32 655360#32 (k0_off1_inb L 15) ∗ xAt d L x 4718592#32 655360#32 (k0_off1_inb L 16) ∗ xAt d L x 4751360#32 655360#32 (k0_off1_inb L 17)
      ∗ xAt d L x 4784128#32 655360#32 (k0_off1_inb L 18) ∗ xAt d L x 4816896#32 655360#32 (k0_off1_inb L 19) ∗ xAt d L x 27262976#32 65536#32 (k0_off1_inb L 20)
      ∗ xAt d L x 27295744#32 65536#32 (k0_off1_inb L 21) ∗ xAt d L x 31457280#32 65536#32 (k0_off1_inb L 22) ∗ xAt d L x 31490048#32 65536#32 (k0_off1_inb L 23)) :=
  bigSep_copies _
/-- The tile's pieces of `out_flat` with theirs. -/
theorem oPts_spelt (f : Buf (Elt F) (oLoc d)) :
    (bigSep Finset.univ fun r : Fin 24 => oAt d L f (k0_off2_at r).1 (k0_off2_at r).2 (k0_off2_inb L r))
      = iprop(oAt d L f 0#32 655360#32 (k0_off2_inb L 0) ∗ oAt d L f 32768#32 655360#32 (k0_off2_inb L 1) ∗ oAt d L f 65536#32 655360#32 (k0_off2_inb L 2)
      ∗ oAt d L f 98304#32 655360#32 (k0_off2_inb L 3) ∗ oAt d L f 131072#32 655360#32 (k0_off2_inb L 4) ∗ oAt d L f 163840#32 655360#32 (k0_off2_inb L 5)
      ∗ oAt d L f 196608#32 655360#32 (k0_off2_inb L 6) ∗ oAt d L f 229376#32 655360#32 (k0_off2_inb L 7) ∗ oAt d L f 262144#32 655360#32 (k0_off2_inb L 8)
      ∗ oAt d L f 294912#32 655360#32 (k0_off2_inb L 9) ∗ oAt d L f 327680#32 655360#32 (k0_off2_inb L 10) ∗ oAt d L f 360448#32 655360#32 (k0_off2_inb L 11)
      ∗ oAt d L f 393216#32 655360#32 (k0_off2_inb L 12) ∗ oAt d L f 425984#32 655360#32 (k0_off2_inb L 13) ∗ oAt d L f 458752#32 655360#32 (k0_off2_inb L 14)
      ∗ oAt d L f 491520#32 655360#32 (k0_off2_inb L 15) ∗ oAt d L f 524288#32 655360#32 (k0_off2_inb L 16) ∗ oAt d L f 557056#32 655360#32 (k0_off2_inb L 17)
      ∗ oAt d L f 589824#32 655360#32 (k0_off2_inb L 18) ∗ oAt d L f 622592#32 655360#32 (k0_off2_inb L 19) ∗ oAt d L f 20971520#32 65536#32 (k0_off2_inb L 20)
      ∗ oAt d L f 21004288#32 65536#32 (k0_off2_inb L 21) ∗ oAt d L f 23068672#32 65536#32 (k0_off2_inb L 22) ∗ oAt d L f 23101440#32 65536#32 (k0_off2_inb L 23)) :=
  bigSep_copies _

/-- A piece of `out_flat` that holds what was read of the piece of `x_flat` of its copy is at `copied x`. -/
theorem oAt_landed (x : Buf (Elt F) (xLoc d)) (f : Buf (Elt F) (oLoc d)) (b p b' p' : BitVec 32) (h : ∀ a, (k0_off1 L b p) a + S32768.size a ≤ S33554432.size a)
    (h' : ∀ a, (k0_off2 L b' p') a + S32768.size a ≤ S25165824.size a)
    (hg : ∀ n < 32768, srcIx (k0_off2 L b' p' 0 + n) = k0_off1 L b p 0 + n)
    (pay : S32768.Idx → Elt F .f32)
    (hp : pay = ((xV).slice (Rect.unit (s := S33554432) (k0_off1 L b p) S32768.size h) (fun _ => rfl)).view.read (Elt F) x) :
    (oAt d L (((oV).slice (Rect.unit (s := S25165824) (k0_off2 L b' p') S32768.size h') (fun _ => rfl)).view.writes (Elt F) f
      [⟨Rect.whole _, pay⟩]) b' p' h' : sProp 𝕄) = oAt d L (copied x) b' p' h' := by
  subst hp
  refine pointsTo_congr fun i hi => ?_
  obtain ⟨j, -, rfl⟩ := Finset.mem_map.mp hi
  let v := ((oV).slice (Rect.unit (s := S25165824) (k0_off2 L b' p') S32768.size h') (fun _ => rfl)).view
  have e : v.emb j = (v.slice (Rect.whole _)).emb j := congrArg v.emb (by ext a; simp)
  rw [View.writes_cons, View.writes_nil, e, View.write_emb_of_mem _ _ (Finset.mem_univ j), ← e]
  show x (((xV).slice (Rect.unit (s := S33554432) (k0_off1 L b p) S32768.size h) (fun _ => rfl)).view.emb j) = x (srcOf (v.emb j))
  refine congrArg x (funext fun (a : Fin 1) => ?_)
  obtain rfl : a = 0 := Subsingleton.elim _ _
  refine Fin.ext ((ValueKit.view_emb_slice_whole_unit_val _ _ _ _ _ _).trans ?_)
  refine (hg (j 0).val (j 0).isLt).symm.trans (congrArg srcIx ?_)
  exact (ValueKit.view_emb_slice_whole_unit_val main_v1_scv _ _ h' j 0).symm

variable [FloatOps F]

set_option maxHeartbeats 4000000 in
/-- A tile, from its pieces of the two arrays and its buffers and semaphores, runs the kernel and ends with its pieces of
    `out_flat` holding the elements they are to hold, the rest as before. -/
theorem tile_body (hF : (K (F := F)).Facts) (x : Buf (Elt F) (xLoc d)) (f₀ : Buf (Elt F) (oLoc d)) (O : CellTallies nD τ sig (HIx 1)) (W : Waits sig (HIx 1))
    (hO : ∀ g, O g none = 0) :
    iprop(levAts (K (F := F)).L (K (F := F)).lev ∗ emp
        ∗ ((bigSep Finset.univ fun r : Fin 24 => xAt d L x (k0_off1_at r).1 (k0_off1_at r).2 (k0_off1_inb L r)) ∗ bigSep Finset.univ fun r : Fin 24 => oAt d L f₀ (k0_off2_at r).1 (k0_off2_at r).2 (k0_off2_inb L r))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_gather L xV (Memref.isWhole_whole _) oV (Memref.isWhole_whole _) b0V (Memref.isWhole_whole _)
            b1V (Memref.isWhole_whole _) b2V (Memref.isWhole_whole _) cc0_scratch3 cc0_scratch4 cc0_scratch5 cc0_scratch6 cc0_scratch7 cc0_scratch8)
          fun _ => iprop(((bigSep Finset.univ fun r : Fin 24 => xAt d L x (k0_off1_at r).1 (k0_off1_at r).2 (k0_off1_inb L r)) ∗ bigSep Finset.univ fun r : Fin 24 => oAt d L (copied x) (k0_off2_at r).1 (k0_off2_at r).2 (k0_off2_inb L r))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_gather_eq_skeleton]; unfold cc0_sc_gather_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  rw [(K (F := F)).scopedBufs_V hF d (cV L) (jV L), SparseCore.Cfg.scopedSems0_V (Val := Elt F) d (cV L) (jV L), ownSems0_split, ownBufs_split]
  have ex := xPts_spelt d L x
  have eo := oPts_spelt d L f₀
  unfold xAt at ex; unfold oAt at eo
  iintro ⟨#Hlv, -, ⟨Hx, Ho⟩, ⟨⟨%f0, Hb0⟩, ⟨%f1, Hb1⟩, ⟨%f2, Hb2⟩, Hbufs⟩, ⟨⟨Hs0, Hs1, Hs2, Hs3, Hs4, Hs5⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hxs := (Entails.of_eq ex) $$ Hx
  ihave Hos := (Entails.of_eq eo) $$ Ho
  icases Hxs with ⟨Hx0, Hx1, Hx2, Hx3, Hx4, Hx5, Hx6, Hx7, Hx8, Hx9, Hx10, Hx11, Hx12, Hx13, Hx14, Hx15, Hx16, Hx17, Hx18, Hx19, Hx20, Hx21, Hx22, Hx23⟩
  icases Hos with ⟨Ho0, Ho1, Ho2, Ho3, Ho4, Ho5, Ho6, Ho7, Ho8, Ho9, Ho10, Ho11, Ho12, Ho13, Ho14, Ho15, Ho16, Ho17, Ho18, Ho19, Ho20, Ho21, Ho22, Ho23⟩
  sl_exec
  sl_step
  rw [xPts_spelt, oPts_spelt]
  isplitr [Hb0 Hb1 Hb2 Hbufs Hs0 Hs1 Hs2 Hs3 Hs4 Hs5 Hsems HO]
  · isplitl [Hx0 Hx1 Hx2 Hx3 Hx4 Hx5 Hx6 Hx7 Hx8 Hx9 Hx10 Hx11 Hx12 Hx13 Hx14 Hx15 Hx16 Hx17 Hx18 Hx19 Hx20 Hx21 Hx22 Hx23]
    · iframe Hx0 Hx1 Hx2 Hx3 Hx4 Hx5 Hx6 Hx7 Hx8 Hx9 Hx10 Hx11 Hx12 Hx13 Hx14 Hx15 Hx16 Hx17 Hx18 Hx19 Hx20 Hx21 Hx22 Hx23
    isplitl [Ho0]; · iapply (Entails.of_eq (oAt_landed d L x f₀ _ _ _ _ _ _ (srcIx_piece L 0) _ (View.read_write_univ _ _))); iexact Ho0
    isplitl [Ho1]; · iapply (Entails.of_eq (oAt_landed d L x f₀ _ _ _ _ _ _ (srcIx_piece L 1) _ (View.read_write_univ _ _))); iexact Ho1
    isplitl [Ho2]; · iapply (Entails.of_eq (oAt_landed d L x f₀ _ _ _ _ _ _ (srcIx_piece L 2) _ (View.read_write_univ _ _))); iexact Ho2
    isplitl [Ho3]; · iapply (Entails.of_eq (oAt_landed d L x f₀ _ _ _ _ _ _ (srcIx_piece L 3) _ (View.read_write_univ _ _))); iexact Ho3
    isplitl [Ho4]; · iapply (Entails.of_eq (oAt_landed d L x f₀ _ _ _ _ _ _ (srcIx_piece L 4) _ (View.read_write_univ _ _))); iexact Ho4
    isplitl [Ho5]; · iapply (Entails.of_eq (oAt_landed d L x f₀ _ _ _ _ _ _ (srcIx_piece L 5) _ (View.read_write_univ _ _))); iexact Ho5
    isplitl [Ho6]; · iapply (Entails.of_eq (oAt_landed d L x f₀ _ _ _ _ _ _ (srcIx_piece L 6) _ (View.read_write_univ _ _))); iexact Ho6
    isplitl [Ho7]; · iapply (Entails.of_eq (oAt_landed d L x f₀ _ _ _ _ _ _ (srcIx_piece L 7) _ (View.read_write_univ _ _))); iexact Ho7
    isplitl [Ho8]; · iapply (Entails.of_eq (oAt_landed d L x f₀ _ _ _ _ _ _ (srcIx_piece L 8) _ (View.read_write_univ _ _))); iexact Ho8
    isplitl [Ho9]; · iapply (Entails.of_eq (oAt_landed d L x f₀ _ _ _ _ _ _ (srcIx_piece L 9) _ (View.read_write_univ _ _))); iexact Ho9
    isplitl [Ho10]; · iapply (Entails.of_eq (oAt_landed d L x f₀ _ _ _ _ _ _ (srcIx_piece L 10) _ (View.read_write_univ _ _))); iexact Ho10
    isplitl [Ho11]; · iapply (Entails.of_eq (oAt_landed d L x f₀ _ _ _ _ _ _ (srcIx_piece L 11) _ (View.read_write_univ _ _))); iexact Ho11
    isplitl [Ho12]; · iapply (Entails.of_eq (oAt_landed d L x f₀ _ _ _ _ _ _ (srcIx_piece L 12) _ (View.read_write_univ _ _))); iexact Ho12
    isplitl [Ho13]; · iapply (Entails.of_eq (oAt_landed d L x f₀ _ _ _ _ _ _ (srcIx_piece L 13) _ (View.read_write_univ _ _))); iexact Ho13
    isplitl [Ho14]; · iapply (Entails.of_eq (oAt_landed d L x f₀ _ _ _ _ _ _ (srcIx_piece L 14) _ (View.read_write_univ _ _))); iexact Ho14
    isplitl [Ho15]; · iapply (Entails.of_eq (oAt_landed d L x f₀ _ _ _ _ _ _ (srcIx_piece L 15) _ (View.read_write_univ _ _))); iexact Ho15
    isplitl [Ho16]; · iapply (Entails.of_eq (oAt_landed d L x f₀ _ _ _ _ _ _ (srcIx_piece L 16) _ (View.read_write_univ _ _))); iexact Ho16
    isplitl [Ho17]; · iapply (Entails.of_eq (oAt_landed d L x f₀ _ _ _ _ _ _ (srcIx_piece L 17) _ (View.read_write_univ _ _))); iexact Ho17
    isplitl [Ho18]; · iapply (Entails.of_eq (oAt_landed d L x f₀ _ _ _ _ _ _ (srcIx_piece L 18) _ (View.read_write_univ _ _))); iexact Ho18
    isplitl [Ho19]; · iapply (Entails.of_eq (oAt_landed d L x f₀ _ _ _ _ _ _ (srcIx_piece L 19) _ (View.read_write_univ _ _))); iexact Ho19
    isplitl [Ho20]; · iapply (Entails.of_eq (oAt_landed d L x f₀ _ _ _ _ _ _ (srcIx_piece L 20) _ (View.read_write_univ _ _))); iexact Ho20
    isplitl [Ho21]; · iapply (Entails.of_eq (oAt_landed d L x f₀ _ _ _ _ _ _ (srcIx_piece L 21) _ (View.read_write_univ _ _))); iexact Ho21
    isplitl [Ho22]; · iapply (Entails.of_eq (oAt_landed d L x f₀ _ _ _ _ _ _ (srcIx_piece L 22) _ (View.read_write_univ _ _))); iexact Ho22
    iapply (Entails.of_eq (oAt_landed d L x f₀ _ _ _ _ _ _ (srcIx_piece L 23) _ (View.read_write_univ _ _))); iexact Ho23
  isplitl [Hb0 Hb1 Hb2 Hbufs]
  · isplitl [Hb0]; · iexists _; iexact Hb0
    isplitl [Hb1]; · iexists _; iexact Hb1
    isplitl [Hb2]; · iexists _; iexact Hb2
    iexact Hbufs
  isplitl [Hs0 Hs1 Hs2 Hs3 Hs4 Hs5 Hsems]
  · isplitr [Hsems]
    · isplitl [Hs0]; · iexact Hs0
      isplitl [Hs1]; · iexact Hs1
      isplitl [Hs2]; · iexact Hs2
      isplitl [Hs3]; · iexact Hs3
      isplitl [Hs4]; · iexact Hs4
      iexact Hs5
    iexact Hsems
  iexists _; isplitr
  swap; · iexact HO
  ipureintro; intro p hp
  repeat (rcases Finset.mem_insert.mp hp with hp | hp; · exact .inr (hp ▸ rfl))
  exact .inl hp

end Tile

end Cert.Proof.Copy

end
-- ==== Proof.Launch.lean ====
/-
  The launch: the arrays split into the tiles' pieces and joined again, what the call's handshakes carry, `@main` on the
  TensorCore (a reshape, the call, a reshape), and the program's run with its result.
-/
module

public import proofs.«01_k».proof.Proof.Tile

@[expose] public section

noncomputable section

namespace Cert.Proof.Copy

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S33554432 EltTy.f32)
local notation "oV" => (Memref.whole Cert.KernelIdeal.main_v1_scv : Memref Cert.KernelIdeal.sig Kind.scVector Space.hbm Cert.KernelIdeal.S25165824 EltTy.f32)
local notation "b0V" => (Memref.whole Cert.KernelIdeal.cc0_scratch0 : Memref Cert.KernelIdeal.sig Kind.scVector Space.vmem Cert.KernelIdeal.S32768 EltTy.f32)
local notation "b1V" => (Memref.whole Cert.KernelIdeal.cc0_scratch1 : Memref Cert.KernelIdeal.sig Kind.scVector Space.vmem Cert.KernelIdeal.S32768 EltTy.f32)
local notation "b2V" => (Memref.whole Cert.KernelIdeal.cc0_scratch2 : Memref Cert.KernelIdeal.sig Kind.scVector Space.vmem Cert.KernelIdeal.S32768 EltTy.f32)

/-! ## The arrays split into pieces -/

/-- The coordinates of tile `s` of SparseCore `c`. -/
def coordsV (c : Fin 2) (s : Fin 16) : grid0.Coords :=
  fun | 0 => c | 1 => s | ⟨_ + 2, h⟩ => absurd h (Nat.not_lt.2 (Nat.le_add_left _ _))

/-- A tile's number tells the tile. -/
theorem wid_coordsV_inj {c c' : Fin 2} {s s' : Fin 16} (h : wid (coordsV c s) = wid (coordsV c' s')) : c = c' ∧ s = s' := by
  have h : 2 * s.val + c.val = 2 * s'.val + c'.val := h
  have := c.isLt; have := c'.isLt
  exact ⟨Fin.ext (by omega), Fin.ext (by omega)⟩

/-- Every number below thirty-two is a tile's. -/
theorem exists_wid {w : ℕ} (h : w < 32) : ∃ c s, wid (coordsV c s) = w :=
  ⟨⟨w % 2, by omega⟩, ⟨w / 2, by omega⟩, show 2 * (w / 2) + w % 2 = w by omega⟩

/-- The places of the pieces: a SparseCore, a tile of it and a copy. -/
abbrev Place : Type := Fin 2 × Fin 16 × Fin 24

/-- The piece of `out_flat` at a place, and that of `x_flat`. -/
def oPiece (t : Place) : Finset S25165824.Idx := oSet (coordsV t.1 t.2.1) t.2.2
def xPiece (t : Place) : Finset S33554432.Idx := xSet (coordsV t.1 t.2.1) t.2.2

/-- An element is of a piece of `out_flat` if its index is in the piece's range. -/
theorem mem_oPiece (t : Place) (i : S25165824.Idx) :
    i ∈ oPiece t ↔ runBase t.2.2.val + wid (coordsV t.1 t.2.1) * runLen t.2.2.val ≤ (i 0).val
      ∧ (i 0).val < runBase t.2.2.val + wid (coordsV t.1 t.2.1) * runLen t.2.2.val + 32768 := by
  unfold oPiece oSet oSl
  rw [← off2_val]
  refine (ValueKit.mem_set_slice_whole_iff main_v1_scv _ i (Iff.rfl)).trans ?_
  rw [Rect.mem_set_unit]
  exact ⟨fun h => h 0, fun h (a : Fin 1) => by obtain rfl : a = 0 := Subsingleton.elim _ _; exact h⟩

/-- An element is of a piece of `x_flat` if its index is in the piece's range. -/
theorem mem_xPiece (t : Place) (i : S33554432.Idx) :
    i ∈ xPiece t ↔ runBase t.2.2.val + runShift t.2.2.val + wid (coordsV t.1 t.2.1) * runLen t.2.2.val ≤ (i 0).val
      ∧ (i 0).val < runBase t.2.2.val + runShift t.2.2.val + wid (coordsV t.1 t.2.1) * runLen t.2.2.val + 32768 := by
  unfold xPiece xSet xSl
  rw [← off1_val]
  refine (ValueKit.mem_set_slice_whole_iff main_v0_scv _ i (Iff.rfl)).trans ?_
  rw [Rect.mem_set_unit]
  exact ⟨fun h => h 0, fun h (a : Fin 1) => by obtain rfl : a = 0 := Subsingleton.elim _ _; exact h⟩

/-- The pieces of `out_flat` are disjoint. -/
theorem oPiece_disjoint : ∀ t ∈ (Finset.univ : Finset Place), ∀ t' ∈ (Finset.univ : Finset Place), t ≠ t' → Disjoint (oPiece t) (oPiece t') := by
  rintro ⟨c, s, r⟩ - ⟨c', s', r'⟩ - ne
  refine Finset.disjoint_left.mpr fun i h h' => ne ?_
  obtain ⟨hw, rfl⟩ := piece_inj ((mem_oPiece _ i).mp h) ((mem_oPiece _ i).mp h')
  obtain ⟨rfl, rfl⟩ := wid_coordsV_inj hw
  rfl

/-- The pieces of `x_flat` are disjoint. -/
theorem xPiece_disjoint : ∀ t ∈ (Finset.univ : Finset Place), ∀ t' ∈ (Finset.univ : Finset Place), t ≠ t' → Disjoint (xPiece t) (xPiece t') := by
  rintro ⟨c, s, r⟩ - ⟨c', s', r'⟩ - ne
  refine Finset.disjoint_left.mpr fun i h h' => ne ?_
  obtain ⟨hw, rfl⟩ := xpiece_inj ((mem_xPiece _ i).mp h) ((mem_xPiece _ i).mp h')
  obtain ⟨rfl, rfl⟩ := wid_coordsV_inj hw
  rfl

/-- The pieces of `out_flat` are all of it. -/
theorem oPiece_cover : (Finset.univ : Finset Place).biUnion oPiece = Finset.univ := by
  refine Finset.eq_univ_iff_forall.mpr fun i => ?_
  have ⟨w, r, hw, hr, h⟩ := piece_cover (n := (i 0).val) (i 0).isLt
  have ⟨c, k, e⟩ := exists_wid hw
  rw [← e] at h
  have hi : i ∈ oPiece (c, k, ⟨r, hr⟩) := (mem_oPiece (c, k, ⟨r, hr⟩) i).mpr h
  have hu : (c, k, (⟨r, hr⟩ : Fin 24)) ∈ (Finset.univ : Finset Place) := Finset.mem_univ _
  rw [Finset.mem_biUnion]
  exact ⟨_, hu, hi⟩

variable (d : Dev nD)

/-- What a tile holds of the two arrays: its pieces of `x_flat` and of `out_flat`. -/
def tilePts (x : Buf (Elt F) (xLoc d)) (f : Buf (Elt F) (oLoc d)) (L : grid0.Coords) : sProp 𝕄 :=
  iprop((bigSep Finset.univ fun r : Fin 24 => xAt d L x (k0_off1_at r).1 (k0_off1_at r).2 (k0_off1_inb L r))
    ∗ bigSep Finset.univ fun r : Fin 24 => oAt d L f (k0_off2_at r).1 (k0_off2_at r).2 (k0_off2_inb L r))

/-- `out_flat` is its pieces. -/
theorem oPts_pieces (f : Buf (Elt F) (oLoc d)) :
    (oLoc d ↦{fullShare} f : sProp 𝕄) = bigSep Finset.univ fun c : Fin 2 => bigSep Finset.univ fun s : Fin 16 =>
      bigSep Finset.univ fun r : Fin 24 => oAt d (coordsV c s) f (k0_off2_at r).1 (k0_off2_at r).2 (k0_off2_inb (coordsV c s) r) := by
  have e : (oLoc d ↦{fullShare} f : sProp 𝕄) = bigSep (Finset.univ : Finset Place) fun t => oLoc d ↦[oPiece t]{fullShare} f := by
    rw [← pointsTo_biUnion (ℓ := oLoc d) Finset.univ oPiece oPiece_disjoint, oPiece_cover]
  rw [e, bigSep_univ_prod]
  exact bigSep_congr fun c _ => bigSep_univ_prod _

/-- The elements of `x_flat` in no piece: the rows that are not selected. -/
def xRest : Finset S33554432.Idx := Finset.univ \ (Finset.univ : Finset Place).biUnion xPiece

/-- `x_flat` is its pieces and the rest. -/
theorem xPts_pieces (x : Buf (Elt F) (xLoc d)) :
    (xLoc d ↦{fullShare} x : sProp 𝕄) = iprop((bigSep Finset.univ fun c : Fin 2 => bigSep Finset.univ fun s : Fin 16 =>
      bigSep Finset.univ fun r : Fin 24 => xAt d (coordsV c s) x (k0_off1_at r).1 (k0_off1_at r).2 (k0_off1_inb (coordsV c s) r))
      ∗ xLoc d ↦[xRest]{fullShare} x) := by
  have e : (xLoc d ↦{fullShare} x : sProp 𝕄) = iprop((xLoc d ↦[(Finset.univ : Finset Place).biUnion xPiece]{fullShare} x) ∗ xLoc d ↦[xRest]{fullShare} x) :=
    BI.Entails.antisymm (pointsTo_split_subset (Finset.subset_univ _)).1 (pointsTo_split_subset (Finset.subset_univ _)).2
  rw [e, pointsTo_biUnion (ℓ := xLoc d) Finset.univ xPiece xPiece_disjoint, bigSep_univ_prod]
  congr 1
  exact bigSep_congr fun c _ => bigSep_univ_prod _

/-- The two arrays are what the tiles hold and the rest of `x_flat`. -/
theorem pts_tiles (x : Buf (Elt F) (xLoc d)) (f : Buf (Elt F) (oLoc d)) :
    (iprop((xLoc d ↦{fullShare} x) ∗ oLoc d ↦{fullShare} f) : sProp 𝕄)
      = iprop((bigSep Finset.univ fun c : Fin 2 => bigSep Finset.univ fun s : Fin 16 => tilePts d x f (coordsV c s)) ∗ xLoc d ↦[xRest]{fullShare} x) := by
  rw [xPts_pieces, oPts_pieces]
  unfold tilePts
  simp only [bigSep_sep']
  have sw (A B C : sProp 𝕄) : iprop((A ∗ B) ∗ C) ⊢ iprop((A ∗ C) ∗ B) := by
    iintro ⟨⟨HA, HB⟩, HC⟩; iframe HA HB HC
  exact BI.Entails.antisymm (sw _ _ _) (sw _ _ _)

variable (m : (ℓ : Loc nD τ sig) → Buf (Elt F) ℓ) (ρ : Dev nD → PrngReg)

/-! ## The values -/

/-- `x`, as the caller passes it, and the result, as the TensorCore addresses them. -/
abbrev argLoc : Loc nD τ sig := (SparseCore.T d).loc main_arg0
abbrev resLoc : Loc nD τ sig := (SparseCore.T d).loc main_v2

/-- `x_flat`: the argument read as one row. -/
def flat : Buf (Elt F) (xLoc d) := shapeCast S33554432 (m (argLoc d)) shapeCasts_S16x64x2x128x128_S33554432

/-- The result: the selected elements of `x_flat`, read in the result's shape. -/
def result : Buf (Elt F) (resLoc d) := shapeCast S12x64x2x128x128 (copied (flat d m)) shapeCasts_S25165824_S12x64x2x128x128

variable [FloatOps F]

/-! ## What the handshakes carry -/

omit [FloatOps F] in
instance tilePts_storable (x : Buf (Elt F) (xLoc d)) (f : Buf (Elt F) (oLoc d)) (L : grid0.Coords) :
    BI.Storable (upEmb : UEmb _ 𝕄) (tilePts d x f L) := by
  unfold tilePts; infer_instance

/-- What a SparseCore's tiles hold of the two arrays. -/
def corePts (x : Buf (Elt F) (xLoc d)) (f : Buf (Elt F) (oLoc d)) (c : Fin 2) : sProp 𝕄 :=
  bigSep Finset.univ fun s : Fin 16 => tilePts d x f (coordsV c s)

omit [FloatOps F] in
instance corePts_storable (x : Buf (Elt F) (xLoc d)) (f : Buf (Elt F) (oLoc d)) (c : Fin 2) :
    BI.Storable (upEmb : UEmb _ 𝕄) (corePts d x f c) := by
  unfold corePts; infer_instance

/-- The call takes, for each SparseCore, its tiles' pieces of the two arrays, and brings them back with those of
    `out_flat` written; each tile takes and brings back its own. -/
def P : (K (F := F)).Pay (nD := nD) (Val := Elt F) (Name := ℕ) (U := UU) where
  st := fun q d c => corePts d (flat d m) (m (oLoc d)) (Fin.cast (nCore_eq q) c)
  dn := fun q d c => corePts d (flat d m) (copied (flat d m)) (Fin.cast (nCore_eq q) c)
  go := fun q d c i => tilePts d (flat d m) (m (oLoc d)) (coordsV (Fin.cast (nCore_eq q) c) (Fin.cast (nSub_eq q) i))
  td := fun q d c i => tilePts d (flat d m) (copied (flat d m)) (coordsV (Fin.cast (nCore_eq q) c) (Fin.cast (nSub_eq q) i))
  x := fun _ _ => iprop(emp)

instance P_storable : (P (F := F) m).IsStorable where
  st _ d c := corePts_storable d _ _ _
  dn _ d c := corePts_storable d _ _ _
  go _ d c i := tilePts_storable d _ _ _
  td _ d c i := tilePts_storable d _ _ _

/-! ## The tiles' obligation -/

/-- What a tile runs for the call is the kernel at its coordinates, over the two arrays and its own buffers and
    semaphores. -/
theorem defs₀_vector (c : Fin τ.nSC) (s : Fin τ.nSub) :
    defs₀ (F := F) (.scVector c s) 0 ()
      = SparseCore.onTile hcore0 hsub0 (fun c s => cc0_sc_gather (coordsV c s) xV (Memref.isWhole_whole _) oV (Memref.isWhole_whole _)
          b0V (Memref.isWhole_whole _) b1V (Memref.isWhole_whole _) b2V (Memref.isWhole_whole _)
          cc0_scratch3 cc0_scratch4 cc0_scratch5 cc0_scratch6 cc0_scratch7 cc0_scratch8) ⟨⟩ c s := rfl

omit [FloatOps F] in
/-- The waits a tile's run records may be said to be of no call or of this one. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

set_option maxRecDepth 16384 in
/-- Every tile, from its pieces, runs the kernel and ends with its pieces written. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (flat d m) (m (oLoc d)) O W hO).trans (wp_mono frame _ _ fun _ => obl_post)

omit [FloatOps F] in
/-- The tasks of the call are the sixteen tiles. -/
theorem bigSep_tasks (Φ : Fin 16 → sProp 𝕄) :
    (bigSep Finset.univ fun i : Fin ((K (F := F)).nSub 0) => Φ (Fin.cast (nSub_eq 0) i)) = bigSep Finset.univ Φ :=
  bigSep_congr fun _ _ => congrArg Φ (Fin.ext rfl)
omit [FloatOps F] in
/-- Its SparseCores are the two. -/
theorem bigSep_cores (Φ : Fin 2 → sProp 𝕄) :
    (bigSep Finset.univ fun c : Fin ((K (F := F)).nCore 0) => Φ (Fin.cast (nCore_eq 0) c)) = bigSep Finset.univ Φ :=
  bigSep_congr fun _ _ => congrArg Φ (Fin.ext rfl)

/-- What a SparseCore takes is what its tiles take, and what they bring back is what it brings back. -/
theorem vecSplit : (K (F := F)).VecSplit' (P m) 0 := by
  intro d c
  show corePts d (flat d m) (m (oLoc d)) (Fin.cast (nCore_eq 0) c) ⊢ |={Set.univ}=> iprop(
      (bigSep Finset.univ fun i : Fin ((K (F := F)).nSub 0) => tilePts d (flat d m) (m (oLoc d)) (coordsV (Fin.cast (nCore_eq 0) c) (Fin.cast (nSub_eq 0) i)))
      ∗ ((bigSep Finset.univ fun i : Fin ((K (F := F)).nSub 0) => tilePts d (flat d m) (copied (flat d m)) (coordsV (Fin.cast (nCore_eq 0) c) (Fin.cast (nSub_eq 0) i)))
          -∗ corePts d (flat d m) (copied (flat d m)) (Fin.cast (nCore_eq 0) c)))
  unfold corePts
  rw [bigSep_tasks (F := F) (fun s => tilePts d (flat d m) (m (oLoc d)) (coordsV (Fin.cast (nCore_eq 0) c) s)),
    bigSep_tasks (F := F) (fun s => tilePts d (flat d m) (copied (flat d m)) (coordsV (Fin.cast (nCore_eq 0) c) s))]
  iintro H; imodintro
  isplitl [H]; · iexact H
  iintro H; iexact H

/-! ## The launch's ghost state -/

/-- The handshakes' rounds; nothing of the kernel's own. -/
def u₀ : UU := (initOf (K (F := F)).hsCells (K (F := F)).hsToks, 1)

omit [FloatOps F] in
/-- Any number of empty assertions is the empty one. -/
theorem bigSep_emp' {I : Type} (s : Finset I) : (bigSep s fun _ => iprop(emp)) = (iprop(emp) : sProp 𝕄) := bigSep_emp_const s

/-- It gives the launch its handshakes. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## `@main` on the TensorCore -/

abbrev aRef : DevRef τ sig := Proc.devRef .tc (main_arg0 : Ref sig .tc)
abbrev xRef : DevRef τ sig := Proc.devRef .tc (main_v0 : Ref sig .tc)
abbrev oRef : DevRef τ sig := Proc.devRef .tc (main_v1 : Ref sig .tc)
abbrev rRef : DevRef τ sig := Proc.devRef .tc (main_v2 : Ref sig .tc)

/-- The reshape before the call and the one after it. -/
abbrev opIn : HloOp τ sig (Elt F) := StableHlo.reshape main_arg0 main_v0 (rfl : (.f32 : EltTy) = .f32) shapeCasts_S16x64x2x128x128_S33554432
abbrev opOut : HloOp τ sig (Elt F) := StableHlo.reshape main_v1 main_v2 (rfl : (.f32 : EltTy) = .f32) shapeCasts_S25165824_S12x64x2x128x128

/-- The TensorCore's arrays, all unscoped. -/
abbrev S4 : Finset (DevRef τ sig) := {aRef, xRef, oRef, rRef}

omit [FloatOps F] in
/-- The four arrays held at a valuation are the four arrays at its contents. -/
theorem held_S4 (W : Valuation τ sig (Elt F)) :
    (held (T d) S4 W : sProp 𝕄) = iprop((argLoc d ↦{fullShare} W aRef) ∗ (xLoc d ↦{fullShare} W xRef) ∗ (oLoc d ↦{fullShare} W oRef) ∗ resLoc d ↦{fullShare} W rRef) := by
  unfold held S4
  rw [SparseCore.bigSep_insert' (by decide), SparseCore.bigSep_insert' (by decide), SparseCore.bigSep_insert' (by decide), bigSep_singleton]

omit [FloatOps F] in
/-- The TensorCore's unscoped arrays are the four. -/
theorem unscopedBufs_eq (W : (b : Ref sig .tc) → Buf (Elt F) ((d.tc : Thread nD τ).loc b)) :
    (unscopedBufs d W : sProp 𝕄) = iprop((argLoc d ↦{fullShare} W main_arg0) ∗ (xLoc d ↦{fullShare} W main_v0) ∗ (oLoc d ↦{fullShare} W main_v1) ∗ resLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The contents at the launch; after the first reshape; after the call; after the second reshape. -/
def V0 : Valuation τ sig (Elt F) := fun b => m (d, b)
def V1 : Valuation τ sig (Elt F) := (opIn (F := F)).result (V0 d m)
def V2 : Valuation τ sig (Elt F) := Function.update (V1 d m) oRef (copied (flat d m))
def V3 : Valuation τ sig (Elt F) := (opOut (F := F)).result (V2 d m)

/-- The first reshape leaves the argument, -/
theorem V1_a : V1 d m aRef = m (argLoc d) := StableHlo.reshape_result_ne _ _ _ _ _ _ _ (show (main_arg0 : Ref sig .tc) ≠ main_v0 by decide)
/-- `out_flat` -/
theorem V1_o : V1 d m oRef = m (oLoc d) := StableHlo.reshape_result_ne _ _ _ _ _ _ _ (show (main_v1 : Ref sig .tc) ≠ main_v0 by decide)
/-- and makes `x_flat`. -/
theorem V1_x : V1 d m xRef = flat d m := StableHlo.reshape_result _ _ _ _ _ _ _

/-- The call leaves the argument, -/
theorem V2_a : V2 d m aRef = m (argLoc d) := (Function.update_of_ne (show aRef ≠ oRef by decide) _ _).trans (V1_a d m)
/-- `x_flat` -/
theorem V2_x : V2 d m xRef = flat d m := (Function.update_of_ne (show xRef ≠ oRef by decide) _ _).trans (V1_x d m)
/-- and the result's array, -/
theorem V2_r : V2 d m rRef = V1 d m rRef := Function.update_of_ne (show rRef ≠ oRef by decide) _ _
/-- and writes `out_flat`. -/
theorem V2_o : V2 d m oRef = copied (flat d m) := Function.update_self _ _ _

/-- The second reshape leaves the argument -/
theorem V3_a : V3 d m aRef = m (argLoc d) :=
  (StableHlo.reshape_result_ne _ _ _ _ _ _ _ (show (main_arg0 : Ref sig .tc) ≠ main_v2 by decide)).trans (V2_a d m)
/-- and makes the result. -/
theorem V3_r : V3 d m rRef = result d m := by
  refine (StableHlo.reshape_result _ _ _ _ _ _ _).trans ?_
  rw [V2_o]; rfl

/-- What the call takes of the two arrays is what the tiles take. -/
theorem st0_eq : (bigSep Finset.univ fun c : Fin ((K (F := F)).nCore 0) => (P m).st 0 d c)
    = bigSep Finset.univ fun c : Fin 2 => bigSep Finset.univ fun s : Fin 16 => tilePts d (flat d m) (m (oLoc d)) (coordsV c s) :=
  bigSep_cores (F := F) (corePts d (flat d m) (m (oLoc d)))
/-- What it brings back is what the tiles bring back. -/
theorem dn0_eq : (bigSep Finset.univ fun c : Fin ((K (F := F)).nCore 0) => (P m).dn 0 d c)
    = bigSep Finset.univ fun c : Fin 2 => bigSep Finset.univ fun s : Fin 16 => tilePts d (flat d m) (copied (flat d m)) (coordsV c s) :=
  bigSep_cores (F := F) (corePts d (flat d m) (copied (flat d m)))

/-- What `@main` leaves the claim: the argument at its launch contents, the result's array at the result. -/
abbrev FIN : sProp 𝕄 := iprop((argLoc d ↦{fullShare} m (argLoc d)) ∗ resLoc d ↦{fullShare} result d m)

/-- `@main` on a device's TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN d m ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hx, Ho, Hr⟩, Hts, -⟩, -⟩
  -- the argument read as one row
  iapply (wp_hlo_within 𝒱 (SparseCore.T d) none Set.univ (op := opIn) (S := S4) (show ({aRef, xRef} : Finset (DevRef τ sig)) ⊆ S4 by decide) (V := V0 d m)) $$ [Hb Ha Hx Ho Hr]
  · isplitl [Hb]; · iexact Hb
    rw [held_S4]
    isplitl [Ha]; · iexact Ha
    isplitl [Hx]; · iexact Hx
    isplitl [Ho]; · iexact Ho
    iexact Hr
  iintro ⟨Hb, Hheld⟩
  ihave Hh := (Entails.of_eq (show held (T d) S4 ((opIn (F := F)).result (V0 d m)) = _ from held_S4 (F := F) d (V1 d m))) $$ Hheld
  rw [V1_a, V1_x, V1_o]
  icases Hh with ⟨Ha, Hx, Ho, Hr⟩
  rw [wp_ret]; imodintro
  -- the call
  ihave Hxo := (Entails.of_eq (pts_tiles d (flat d m) (m (oLoc d)))) $$ [Hx Ho]; · isplitl [Hx] <;> iassumption
  icases Hxo with ⟨Hxo, Hrest⟩
  iapply ((K (F := F)).wp_run (D (F := F)) 𝒱 (EH := EH) (P := P m) κ d 0) $$ [Hst Hxo Hrest Ha Hr Hb Hts]
  isplitr; · iexact Hctx
  isplitl [Hst]; · iexact Hst
  isplitl [Hxo]; · rw [st0_eq]; iexact Hxo
  iintro ⟨Hst, Hdn⟩
  ihave Hxo := (Entails.of_eq (dn0_eq d m)) $$ Hdn
  ihave Hxo := (Entails.of_eq (pts_tiles d (flat d m) (copied (flat d m))).symm) $$ [Hxo Hrest]; · isplitl [Hxo] <;> iassumption
  icases Hxo with ⟨Hx, Ho⟩
  -- the result's shape
  iapply (wp_hlo_within 𝒱 (SparseCore.T d) none Set.univ (op := opOut) (S := S4) (show ({oRef, rRef} : Finset (DevRef τ sig)) ⊆ S4 by decide) (V := V2 d m)) $$ [Hb Ha Hx Ho Hr]
  · isplitl [Hb]; · iexact Hb
    rw [held_S4, V2_a, V2_x, V2_o, V2_r]
    isplitl [Ha]; · iexact Ha
    isplitl [Hx]; · iexact Hx
    isplitl [Ho]; · iexact Ho
    iexact Hr
  iintro ⟨Hb, Hheld⟩
  ihave Hh := (Entails.of_eq (show held (T d) S4 ((opOut (F := F)).result (V2 d m)) = _ from held_S4 (F := F) d (V3 d m))) $$ Hheld
  rw [V3_a, V3_r]
  icases Hh with ⟨Ha, -, -, Hr⟩
  rw [wp_ret]; imodintro; imodintro
  isplitl [Hst]; · iexact Hst
  isplitl [Ha Hr]
  · isplitl [Ha] <;> iassumption
  isplitl [Hb] <;> iassumption

/-- What a final state holds on a device. -/
def fq (s' : Phys nD τ sig (Elt F)) : Prop := s'.mem.mem (argLoc d) = m (argLoc d) ∧ s'.mem.mem (resLoc d) = result d m

/-- `@main`'s arrays tell it. -/
theorem hfin (d : Dev nD) (s' : Phys nD τ sig (Elt F)) : iprop(FIN d m ∗ SI s') ⊢ (⌜fq d m s'⌝ : sProp 𝕄) := by
  iintro ⟨⟨Ha, Hr⟩, HSI⟩
  ihave H := (persistent_entails_right (SI_pointsTo_agree (st := s') (ℓ := argLoc d) (I := Finset.univ) (q := fullShare) (f := m (argLoc d)))) $$ [HSI Ha]
  · isplitl [HSI] <;> iassumption
  icases H with ⟨%h1, HSI, -⟩
  ihave H := (SI_pointsTo_agree (st := s') (ℓ := resLoc d) (I := Finset.univ) (q := fullShare) (f := result d m)) $$ [HSI Hr]
  · isplitl [HSI] <;> iassumption
  icases H with %h2
  ipureintro; exact ⟨funext fun i => h1 i (Finset.mem_univ i), funext fun i => h2 i (Finset.mem_univ i)⟩

/-! ## The program's run -/

/-- What a final memory holds: on every device the argument unchanged and the result, and every semaphore at zero. -/
def QC : PUnit × MemSt nD τ sig (Elt F) → Prop := fun r =>
  (∀ c : Dev nD, r.2.mem (argLoc c) = m (argLoc c) ∧ r.2.mem (resLoc c) = result c m) ∧ r.2.sem = fun _ => 0

/-- Every run of the program ends so. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (fun d => FIN d m) (u₀ (F := F)) (sep_elim_left.trans (hu₀ m)) (hmain m ρ) (fun d => fq d m) (hfin m) (QC m) (fun _ h hz => ⟨h, hz⟩)

end Cert.Proof.Copy

end
-- ==== Proof.Rows.lean ====
/-
  The reference's indexing read at an element, and that the kernel's result is it.
-/
module

public import proofs.«01_k».proof.Proof.Launch
public import proofs.«01_k».proof.Proof.Gen.ReferenceIdeal.Run
public import Idealize.ShloMosaic.Lib.Pipeline.Value

@[expose] public section

noncomputable section

namespace Cert.Proof.Rows

open Idealize.ShloMosaic Cert.ReferenceIdeal Cert.ReferenceIdeal.Gen

/-- The selected rows, in order. -/
def rowOf (k : ℕ) : ℕ := if k < 10 then k + 2 else if k < 11 then k + 3 else k + 4

/-- A selected row is a row of `x`. -/
theorem rowOf_lt {k : ℕ} (h : k < 12) : rowOf k < 16 := by unfold rowOf; split_ifs <;> omega

/-- Entry `k` of the list of rows, as the indexing reads it. -/
def rowIx (k : Fin 12) : S12x1.Idx := fun a => match a with | ⟨0, _⟩ => k | ⟨1, _⟩ => ⟨0, Nat.one_pos⟩

/-- The element of `x` that element `j` of the result is: of the same place in the `j 0`-th selected row. -/
def srcIdx (j : S12x64x2x128x128.Idx) : S16x64x2x128x128.Idx := fun a => match a with
  | ⟨0, _⟩ => ⟨rowOf (j 0).val, rowOf_lt (j 0).isLt⟩ | ⟨1, _⟩ => j 1 | ⟨2, _⟩ => j 2 | ⟨3, _⟩ => j 3 | ⟨4, _⟩ => j 4

local notation "gd" => gather_S16x64x2x128x128_S12x1_S12x64x2x128x128_1234_0_n_n_0_1_1642128128

/-- Indexing by a list that holds the selected rows takes the selected rows. -/
theorem gather_rows {α : Type} (x : S16x64x2x128x128.Idx → α) (idx : IVec S12x1 32)
    (h : ∀ k : Fin 12, idx (rowIx k) = BitVec.ofNat 32 (rowOf k.val)) (j : S12x64x2x128x128.Idx) :
    Host.gather gd x idx j = x (srcIdx j) := by
  unfold Host.gather
  refine congrArg x (funext fun a => Fin.ext ?_)
  have hb : ∀ a, (gd).batchCoord j a = 0 := fun a => GatherDims.batchCoord_eq_zero _ _ _ List.not_mem_nil
  have hs : ∀ a, a ≠ (0 : Fin 5) → (gd).start j idx a = 0 := fun a ha => by
    unfold GatherDims.start
    exact dif_neg fun hm => ha (List.mem_singleton.mp hm)
  show (gd).start j idx a + (gd).batchCoord j a + (gd).offCoord j a = _
  rw [hb, Nat.add_zero]
  match a with
  | ⟨0, _⟩ =>
    rw [GatherDims.offCoord_eq_zero _ _ _ (fun hm => ((GatherDims.mem_sKept _ _).mp hm).1 (List.mem_singleton.mpr rfl)), Nat.add_zero]
    show (gd).start j idx (0 : Fin 5) = rowOf (j 0).val
    unfold GatherDims.start
    refine (dif_pos (show (0 : Fin 5) ∈ (gd).startIndexMap from List.mem_singleton.mpr rfl)).trans ?_
    have hsi : (gd).siIdx j ⟨List.idxOf (0 : Fin 5) (gd).startIndexMap, List.idxOf_lt_length_iff.2 (List.mem_singleton.mpr rfl)⟩ = rowIx (j 0) := by
      funext b; refine Fin.ext ?_
      match b with
      | ⟨0, _⟩ => rfl
      | ⟨1, _⟩ => rfl
    rw [hsi]
    have hr := rowOf_lt (j 0).isLt
    refine (congrArg (fun b : BitVec 32 => min b.toInt.toNat 15) (h (j 0))).trans ?_
    show min (BitVec.ofNat 32 (rowOf (j 0).val)).toInt.toNat 15 = rowOf (j 0).val
    generalize rowOf (j 0).val = r at hr ⊢
    interval_cases r <;> rfl
  | ⟨1, _⟩ => rw [hs _ (Fin.ne_of_val_ne (show 1 ≠ 0 by decide)), Nat.zero_add]; rfl
  | ⟨2, _⟩ => rw [hs _ (Fin.ne_of_val_ne (show 2 ≠ 0 by decide)), Nat.zero_add]; rfl
  | ⟨3, _⟩ => rw [hs _ (Fin.ne_of_val_ne (show 3 ≠ 0 by decide)), Nat.zero_add]; rfl
  | ⟨4, _⟩ => rw [hs _ (Fin.ne_of_val_ne (show 4 ≠ 0 by decide)), Nat.zero_add]; rfl

/-- Where element `j` of the result lies in `out_flat`. -/
def place (j : S12x64x2x128x128.Idx) : ℕ := ((((j 0).val * 64 + (j 1).val) * 2 + (j 2).val) * 128 + (j 3).val) * 128 + (j 4).val

/-- A row's elements are together: `srcIx` takes the element's place to that of its source. -/
theorem srcIx_row (k e : ℕ) (hk : k < 12) (he : e < 2097152) : Copy.srcIx (k * 2097152 + e) = rowOf k * 2097152 + e := by
  unfold Copy.srcIx rowOf; split_ifs <;> omega

/-- The kernel's moves between the one-row arrays, read in the argument's and the result's shapes, take the selected
    rows. -/
theorem result_rows {α : Type} (x : S16x64x2x128x128.Idx → α) (j : S12x64x2x128x128.Idx)
    (h : S16x64x2x128x128.ShapeCasts Cert.KernelIdeal.S33554432) (h' : Cert.KernelIdeal.S25165824.ShapeCasts S12x64x2x128x128) :
    shapeCast S12x64x2x128x128 (fun i => shapeCast Cert.KernelIdeal.S33554432 x h (Copy.srcOf i)) h' j = x (srcIdx j) := by
  have h0 : (j 0).val < 12 := (j 0).isLt
  have h1 : (j 1).val < 64 := (j 1).isLt
  have h2 : (j 2).val < 2 := (j 2).isLt
  have h3 : (j 3).val < 128 := (j 3).isLt
  have h4 : (j 4).val < 128 := (j 4).isLt
  have hp : place j < 25165824 := by unfold place; omega
  refine (shapeCast_apply _ h' j (fun a => match a with | 0 => ⟨place j, hp⟩) ?_).trans (shapeCast_apply x h _ _ ?_)
  · rw [Shape.rowMajor_val_one, Shape.rowMajor_val_five]; rfl
  · rw [Shape.rowMajor_val_one, Shape.rowMajor_val_five]
    show ((((rowOf (j 0).val) * 64 + (j 1).val) * 2 + (j 2).val) * 128 + (j 3).val) * 128 + (j 4).val = Copy.srcIx (place j)
    have e := srcIx_row (j 0).val ((((j 1).val * 2 + (j 2).val) * 128 + (j 3).val) * 128 + (j 4).val) h0 (by omega)
    rw [show place j = (j 0).val * 2097152 + ((((j 1).val * 2 + (j 2).val) * 128 + (j 3).val) * 128 + (j 4).val) by unfold place; omega, e]
    omega

end Cert.Proof.Rows

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Rows
public import Idealize.ShloMosaic.Adequacy
public import Idealize.ShloMosaic.Init

@[expose] public section

noncomputable section

namespace Cert.Proof

open Idealize.ShloMosaic Idealize.SL.Sem

/-- The kernel, at the machine's floats: its text is the idealization's, whose run holds of any floats. -/
theorem frame_kernel : Cert.quiescent_Kernel := fun m ρ _ =>
  (θ_run Cert.KernelIdeal.defs _ _).mono (fun _ h => ⟨fun c => (h.1 c).1, h.2⟩) (Copy.run_main (F := Bits) m ρ)

/-- The kernel, at the ideal floats. -/
theorem frame_kernelIdeal : Cert.quiescent_KernelIdeal := fun m ρ _ =>
  (θ_run Cert.KernelIdeal.defs _ _).mono (fun _ h => ⟨fun c => (h.1 c).1, h.2⟩) (Copy.run_main (F := Ideal) m ρ)

/-- The list of rows the reference indexes by holds the selected rows. -/
theorem rows_list (k : Fin 12) : broadcastInDim Cert.ReferenceIdeal.S12x1 ![0] Cert.ReferenceIdeal.Facts₀.bcast_S12_S12x1_0
    (select (constantI Cert.ReferenceIdeal.S12 1 0#1)
      (addi (fun i => Cert.ReferenceIdeal.lit0 (Cert.ReferenceIdeal.S12.rowMajor i))
        (broadcastInDim Cert.ReferenceIdeal.S12 ![] Cert.ReferenceIdeal.Facts₀.bcast_S_S12 (constantI Cert.ReferenceIdeal.S_ 32 16#32)))
      (fun i => Cert.ReferenceIdeal.lit0 (Cert.ReferenceIdeal.S12.rowMajor i))) (Rows.rowIx k) = BitVec.ofNat 32 (Rows.rowOf k.val) := by
  revert k; decide

/-- The reference leaves its argument as it was; it has no semaphore whose counter could differ from zero. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference end with the same result: at each place the element of the argument that stands there in
    the selected row. -/
theorem algebraic : Cert.algebraic_KernelIdeal_ReferenceIdeal := by
  intro m ρ m' ρ' _ hagree
  refine ⟨fun c => Copy.result c m,
    (θ_run Cert.KernelIdeal.defs _ _).mono (fun _ h c => ⟨(h.1 c).2, (h.1 c).1⟩) (Copy.run_main (F := Ideal) m ρ), ?_⟩
  refine (θ_run Cert.ReferenceIdeal.defs _ _).mono (fun r h c => ⟨(h c).1.trans ?_, (h c).2⟩)
    (Cert.ReferenceIdeal.Value.run (F := Ideal) m' ρ')
  funext j
  refine (Rows.gather_rows _ _ rows_list j).trans ?_
  refine (congrFun (hagree c) (Rows.srcIdx j)).trans ?_
  exact (Rows.result_rows _ j _ _).symm

/-- Everything the certificate claims. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
